-- ==== Defs.lean ====
def Pre_Kernel (m : (ℓ : Loc Cert.Kernel.nD Cert.Kernel.τ Cert.Kernel.sig) → Buf (Elt Bits) ℓ) : Prop :=
  True

def Pre_Scaled (m : (ℓ : Loc Cert.Scaled.nD Cert.Scaled.τ Cert.Scaled.sig) → Buf (Elt Bits) ℓ) : Prop :=
  True

def Pre_ScaledIdeal (m : (ℓ : Loc Cert.ScaledIdeal.nD Cert.ScaledIdeal.τ Cert.ScaledIdeal.sig) → Buf (Elt Ideal) ℓ) : Prop :=
  True

def Pre_ScaledReferenceIdeal (m : (ℓ : Loc Cert.ScaledReferenceIdeal.nD Cert.ScaledReferenceIdeal.τ Cert.ScaledReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Scaled [hScaled : Cert.Scaled.Facts] : Prop :=
  ∀ (m : (ℓ : Loc Cert.Scaled.nD Cert.Scaled.τ Cert.Scaled.sig) → Buf (Elt Bits) ℓ) (g : Dev Cert.Scaled.nD → PrngReg), Pre_Scaled m →
    θ_run (Cert.Scaled.defs (F := Bits)) (onTc (τ := Cert.Scaled.τ) (Cert.Scaled.main (F := Bits))) ⟨m, fun _ => 0, g⟩ (fun r => (∀ c : Dev Cert.Scaled.nD,
      r.2.mem ((c.tc : Thread Cert.Scaled.nD Cert.Scaled.τ).loc Cert.Scaled.main_arg0) = m ((c.tc : Thread Cert.Scaled.nD Cert.Scaled.τ).loc Cert.Scaled.main_arg0)
      ∧ r.2.mem ((c.tc : Thread Cert.Scaled.nD Cert.Scaled.τ).loc Cert.Scaled.main_arg1) = m ((c.tc : Thread Cert.Scaled.nD Cert.Scaled.τ).loc Cert.Scaled.main_arg1)
      ∧ r.2.mem ((c.tc : Thread Cert.Scaled.nD Cert.Scaled.τ).loc Cert.Scaled.main_arg2) = m ((c.tc : Thread Cert.Scaled.nD Cert.Scaled.τ).loc Cert.Scaled.main_arg2)
      ∧ r.2.mem ((c.tc : Thread Cert.Scaled.nD Cert.Scaled.τ).loc Cert.Scaled.main_arg3) = m ((c.tc : Thread Cert.Scaled.nD Cert.Scaled.τ).loc Cert.Scaled.main_arg3)
      ∧ r.2.mem ((c.tc : Thread Cert.Scaled.nD Cert.Scaled.τ).loc Cert.Scaled.main_arg4) = m ((c.tc : Thread Cert.Scaled.nD Cert.Scaled.τ).loc Cert.Scaled.main_arg4))
      ∧ r.2.sem = fun _ => 0)

def quiescent_ScaledIdeal [hScaledIdeal : Cert.ScaledIdeal.Facts] : Prop :=
  ∀ (m : (ℓ : Loc Cert.ScaledIdeal.nD Cert.ScaledIdeal.τ Cert.ScaledIdeal.sig) → Buf (Elt Ideal) ℓ) (g : Dev Cert.ScaledIdeal.nD → PrngReg), Pre_ScaledIdeal m →
    θ_run (Cert.ScaledIdeal.defs (F := Ideal)) (onTc (τ := Cert.ScaledIdeal.τ) (Cert.ScaledIdeal.main (F := Ideal))) ⟨m, fun _ => 0, g⟩ (fun r => (∀ c : Dev Cert.ScaledIdeal.nD,
      r.2.mem ((c.tc : Thread Cert.ScaledIdeal.nD Cert.ScaledIdeal.τ).loc Cert.ScaledIdeal.main_arg0) = m ((c.tc : Thread Cert.ScaledIdeal.nD Cert.ScaledIdeal.τ).loc Cert.ScaledIdeal.main_arg0)
      ∧ r.2.mem ((c.tc : Thread Cert.ScaledIdeal.nD Cert.ScaledIdeal.τ).loc Cert.ScaledIdeal.main_arg1) = m ((c.tc : Thread Cert.ScaledIdeal.nD Cert.ScaledIdeal.τ).loc Cert.ScaledIdeal.main_arg1)
      ∧ r.2.mem ((c.tc : Thread Cert.ScaledIdeal.nD Cert.ScaledIdeal.τ).loc Cert.ScaledIdeal.main_arg2) = m ((c.tc : Thread Cert.ScaledIdeal.nD Cert.ScaledIdeal.τ).loc Cert.ScaledIdeal.main_arg2)
      ∧ r.2.mem ((c.tc : Thread Cert.ScaledIdeal.nD Cert.ScaledIdeal.τ).loc Cert.ScaledIdeal.main_arg3) = m ((c.tc : Thread Cert.ScaledIdeal.nD Cert.ScaledIdeal.τ).loc Cert.ScaledIdeal.main_arg3)
      ∧ r.2.mem ((c.tc : Thread Cert.ScaledIdeal.nD Cert.ScaledIdeal.τ).loc Cert.ScaledIdeal.main_arg4) = m ((c.tc : Thread Cert.ScaledIdeal.nD Cert.ScaledIdeal.τ).loc Cert.ScaledIdeal.main_arg4))
      ∧ r.2.sem = fun _ => 0)

def quiescent_ScaledReferenceIdeal [hScaledReferenceIdeal : Cert.ScaledReferenceIdeal.Facts] : Prop :=
  ∀ (m : (ℓ : Loc Cert.ScaledReferenceIdeal.nD Cert.ScaledReferenceIdeal.τ Cert.ScaledReferenceIdeal.sig) → Buf (Elt Ideal) ℓ) (g : Dev Cert.ScaledReferenceIdeal.nD → PrngReg), Pre_ScaledReferenceIdeal m →
    θ_run (Cert.ScaledReferenceIdeal.defs (F := Ideal)) (onTc (τ := Cert.ScaledReferenceIdeal.τ) (Cert.ScaledReferenceIdeal.main (F := Ideal))) ⟨m, fun _ => 0, g⟩ (fun r => (∀ c : Dev Cert.ScaledReferenceIdeal.nD,
      r.2.mem ((c.tc : Thread Cert.ScaledReferenceIdeal.nD Cert.ScaledReferenceIdeal.τ).loc Cert.ScaledReferenceIdeal.main_arg0) = m ((c.tc : Thread Cert.ScaledReferenceIdeal.nD Cert.ScaledReferenceIdeal.τ).loc Cert.ScaledReferenceIdeal.main_arg0)
      ∧ r.2.mem ((c.tc : Thread Cert.ScaledReferenceIdeal.nD Cert.ScaledReferenceIdeal.τ).loc Cert.ScaledReferenceIdeal.main_arg1) = m ((c.tc : Thread Cert.ScaledReferenceIdeal.nD Cert.ScaledReferenceIdeal.τ).loc Cert.ScaledReferenceIdeal.main_arg1)
      ∧ r.2.mem ((c.tc : Thread Cert.ScaledReferenceIdeal.nD Cert.ScaledReferenceIdeal.τ).loc Cert.ScaledReferenceIdeal.main_arg2) = m ((c.tc : Thread Cert.ScaledReferenceIdeal.nD Cert.ScaledReferenceIdeal.τ).loc Cert.ScaledReferenceIdeal.main_arg2)
      ∧ r.2.mem ((c.tc : Thread Cert.ScaledReferenceIdeal.nD Cert.ScaledReferenceIdeal.τ).loc Cert.ScaledReferenceIdeal.main_arg3) = m ((c.tc : Thread Cert.ScaledReferenceIdeal.nD Cert.ScaledReferenceIdeal.τ).loc Cert.ScaledReferenceIdeal.main_arg3)
      ∧ r.2.mem ((c.tc : Thread Cert.ScaledReferenceIdeal.nD Cert.ScaledReferenceIdeal.τ).loc Cert.ScaledReferenceIdeal.main_arg4) = m ((c.tc : Thread Cert.ScaledReferenceIdeal.nD Cert.ScaledReferenceIdeal.τ).loc Cert.ScaledReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Scaled_ScaledIdeal : Prop :=
  True

def algebraic_ScaledIdeal_ScaledReferenceIdeal [hScaledIdeal : Cert.ScaledIdeal.Facts] [hScaledReferenceIdeal : Cert.ScaledReferenceIdeal.Facts] : Prop :=
  ∀ (m : (ℓ : Loc Cert.ScaledIdeal.nD Cert.ScaledIdeal.τ Cert.ScaledIdeal.sig) → Buf (Elt Ideal) ℓ) (g : Dev Cert.ScaledIdeal.nD → PrngReg)
    (m' : (ℓ : Loc Cert.ScaledReferenceIdeal.nD Cert.ScaledReferenceIdeal.τ Cert.ScaledReferenceIdeal.sig) → Buf (Elt Ideal) ℓ) (g' : Dev Cert.ScaledReferenceIdeal.nD → PrngReg), Pre_ScaledIdeal m →
    (∀ c : Dev Cert.ScaledIdeal.nD,
      m' ((c.tc : Thread Cert.ScaledReferenceIdeal.nD Cert.ScaledReferenceIdeal.τ).loc Cert.ScaledReferenceIdeal.main_arg0) = m ((c.tc : Thread Cert.ScaledIdeal.nD Cert.ScaledIdeal.τ).loc Cert.ScaledIdeal.main_arg0)
      ∧ m' ((c.tc : Thread Cert.ScaledReferenceIdeal.nD Cert.ScaledReferenceIdeal.τ).loc Cert.ScaledReferenceIdeal.main_arg1) = m ((c.tc : Thread Cert.ScaledIdeal.nD Cert.ScaledIdeal.τ).loc Cert.ScaledIdeal.main_arg1)
      ∧ m' ((c.tc : Thread Cert.ScaledReferenceIdeal.nD Cert.ScaledReferenceIdeal.τ).loc Cert.ScaledReferenceIdeal.main_arg2) = m ((c.tc : Thread Cert.ScaledIdeal.nD Cert.ScaledIdeal.τ).loc Cert.ScaledIdeal.main_arg2)
      ∧ m' ((c.tc : Thread Cert.ScaledReferenceIdeal.nD Cert.ScaledReferenceIdeal.τ).loc Cert.ScaledReferenceIdeal.main_arg3) = m ((c.tc : Thread Cert.ScaledIdeal.nD Cert.ScaledIdeal.τ).loc Cert.ScaledIdeal.main_arg3)
      ∧ m' ((c.tc : Thread Cert.ScaledReferenceIdeal.nD Cert.ScaledReferenceIdeal.τ).loc Cert.ScaledReferenceIdeal.main_arg4) = m ((c.tc : Thread Cert.ScaledIdeal.nD Cert.ScaledIdeal.τ).loc Cert.ScaledIdeal.main_arg4)) →
    ∃ (v0 : (c : Dev Cert.ScaledIdeal.nD) → Buf (Elt Ideal) ((c.tc : Thread Cert.ScaledIdeal.nD Cert.ScaledIdeal.τ).loc Cert.ScaledIdeal.main_v1_0)) (v1 : (c : Dev Cert.ScaledIdeal.nD) → Buf (Elt Ideal) ((c.tc : Thread Cert.ScaledIdeal.nD Cert.ScaledIdeal.τ).loc Cert.ScaledIdeal.main_v1_1)) (v2 : (c : Dev Cert.ScaledIdeal.nD) → Buf (Elt Ideal) ((c.tc : Thread Cert.ScaledIdeal.nD Cert.ScaledIdeal.τ).loc Cert.ScaledIdeal.main_arg3)),
      θ_run (Cert.ScaledIdeal.defs (F := Ideal)) (onTc (τ := Cert.ScaledIdeal.τ) (Cert.ScaledIdeal.main (F := Ideal))) ⟨m, fun _ => 0, g⟩ (fun r => ∀ c : Dev Cert.ScaledIdeal.nD,
          r.2.mem ((c.tc : Thread Cert.ScaledIdeal.nD Cert.ScaledIdeal.τ).loc Cert.ScaledIdeal.main_v1_0) = v0 c
          ∧ r.2.mem ((c.tc : Thread Cert.ScaledIdeal.nD Cert.ScaledIdeal.τ).loc Cert.ScaledIdeal.main_v1_1) = v1 c
          ∧ r.2.mem ((c.tc : Thread Cert.ScaledIdeal.nD Cert.ScaledIdeal.τ).loc Cert.ScaledIdeal.main_arg3) = v2 c
          ∧ r.2.mem ((c.tc : Thread Cert.ScaledIdeal.nD Cert.ScaledIdeal.τ).loc Cert.ScaledIdeal.main_arg0) = m ((c.tc : Thread Cert.ScaledIdeal.nD Cert.ScaledIdeal.τ).loc Cert.ScaledIdeal.main_arg0)
          ∧ r.2.mem ((c.tc : Thread Cert.ScaledIdeal.nD Cert.ScaledIdeal.τ).loc Cert.ScaledIdeal.main_arg1) = m ((c.tc : Thread Cert.ScaledIdeal.nD Cert.ScaledIdeal.τ).loc Cert.ScaledIdeal.main_arg1)
          ∧ r.2.mem ((c.tc : Thread Cert.ScaledIdeal.nD Cert.ScaledIdeal.τ).loc Cert.ScaledIdeal.main_arg2) = m ((c.tc : Thread Cert.ScaledIdeal.nD Cert.ScaledIdeal.τ).loc Cert.ScaledIdeal.main_arg2)
          ∧ r.2.mem ((c.tc : Thread Cert.ScaledIdeal.nD Cert.ScaledIdeal.τ).loc Cert.ScaledIdeal.main_arg3) = m ((c.tc : Thread Cert.ScaledIdeal.nD Cert.ScaledIdeal.τ).loc Cert.ScaledIdeal.main_arg3)
          ∧ r.2.mem ((c.tc : Thread Cert.ScaledIdeal.nD Cert.ScaledIdeal.τ).loc Cert.ScaledIdeal.main_arg4) = m ((c.tc : Thread Cert.ScaledIdeal.nD Cert.ScaledIdeal.τ).loc Cert.ScaledIdeal.main_arg4))
      ∧ θ_run (Cert.ScaledReferenceIdeal.defs (F := Ideal)) (onTc (τ := Cert.ScaledReferenceIdeal.τ) (Cert.ScaledReferenceIdeal.main (F := Ideal))) ⟨m', fun _ => 0, g'⟩ (fun r => ∀ c : Dev Cert.ScaledReferenceIdeal.nD,
          r.2.mem ((c.tc : Thread Cert.ScaledReferenceIdeal.nD Cert.ScaledReferenceIdeal.τ).loc Cert.ScaledReferenceIdeal.main_v0_0) = v0 c
          ∧ r.2.mem ((c.tc : Thread Cert.ScaledReferenceIdeal.nD Cert.ScaledReferenceIdeal.τ).loc Cert.ScaledReferenceIdeal.main_v0_1) = v1 c
          ∧ r.2.mem ((c.tc : Thread Cert.ScaledReferenceIdeal.nD Cert.ScaledReferenceIdeal.τ).loc Cert.ScaledReferenceIdeal.main_arg3) = v2 c
          ∧ r.2.mem ((c.tc : Thread Cert.ScaledReferenceIdeal.nD Cert.ScaledReferenceIdeal.τ).loc Cert.ScaledReferenceIdeal.main_arg0) = m' ((c.tc : Thread Cert.ScaledReferenceIdeal.nD Cert.ScaledReferenceIdeal.τ).loc Cert.ScaledReferenceIdeal.main_arg0)
          ∧ r.2.mem ((c.tc : Thread Cert.ScaledReferenceIdeal.nD Cert.ScaledReferenceIdeal.τ).loc Cert.ScaledReferenceIdeal.main_arg1) = m' ((c.tc : Thread Cert.ScaledReferenceIdeal.nD Cert.ScaledReferenceIdeal.τ).loc Cert.ScaledReferenceIdeal.main_arg1)
          ∧ r.2.mem ((c.tc : Thread Cert.ScaledReferenceIdeal.nD Cert.ScaledReferenceIdeal.τ).loc Cert.ScaledReferenceIdeal.main_arg2) = m' ((c.tc : Thread Cert.ScaledReferenceIdeal.nD Cert.ScaledReferenceIdeal.τ).loc Cert.ScaledReferenceIdeal.main_arg2)
          ∧ r.2.mem ((c.tc : Thread Cert.ScaledReferenceIdeal.nD Cert.ScaledReferenceIdeal.τ).loc Cert.ScaledReferenceIdeal.main_arg3) = m' ((c.tc : Thread Cert.ScaledReferenceIdeal.nD Cert.ScaledReferenceIdeal.τ).loc Cert.ScaledReferenceIdeal.main_arg3)
          ∧ r.2.mem ((c.tc : Thread Cert.ScaledReferenceIdeal.nD Cert.ScaledReferenceIdeal.τ).loc Cert.ScaledReferenceIdeal.main_arg4) = m' ((c.tc : Thread Cert.ScaledReferenceIdeal.nD Cert.ScaledReferenceIdeal.τ).loc Cert.ScaledReferenceIdeal.main_arg4))

def bitexact_Kernel_Reference_on_codes_and_scale [hKernel : Cert.Kernel.Facts] [hReference : Cert.Reference.Facts] [hOn_codes_and_scale : Cert.On_codes_and_scale.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v6_0)) (v1 : (c : Dev Cert.Kernel.nD) → Buf (Elt Bits) ((c.tc : Thread Cert.Kernel.nD Cert.Kernel.τ).loc Cert.Kernel.main_v6_1)) (v2 : (c : Dev Cert.Kernel.nD) → Buf (Elt Bits) ((c.tc : Thread Cert.Kernel.nD Cert.Kernel.τ).loc Cert.Kernel.main_arg3)),
      θ_run (Cert.Kernel.defs (F := Bits)) (onTc (τ := Cert.Kernel.τ) (Cert.Kernel.main (F := Bits))) ⟨m, fun _ => 0, g⟩ (fun r => ∀ c : Dev Cert.Kernel.nD,
          (∀ i : (⟨3, ![3072, 8, 1536]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Kernel.nD Cert.Kernel.τ).loc Cert.Kernel.main_v6_0) i = v0 c i)
          ∧ (∀ i : (⟨3, ![3, 8192, 6016]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Kernel.nD Cert.Kernel.τ).loc Cert.Kernel.main_v6_1) i = v1 c i)
          ∧ (∀ i : (⟨1, ![1]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Kernel.nD Cert.Kernel.τ).loc Cert.Kernel.main_arg3) i = v2 c i)
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          (∀ i : (⟨3, ![3072, 8, 1536]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 i = 1#1 → r.2.mem ((c.tc : Thread Cert.Reference.nD Cert.Reference.τ).loc Cert.Reference.main_v5_0) i = v0 c i)
          ∧ (∀ i : (⟨3, ![3, 8192, 6016]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.1 i = 1#1 → r.2.mem ((c.tc : Thread Cert.Reference.nD Cert.Reference.τ).loc Cert.Reference.main_v5_1) i = v1 c i)
          ∧ (∀ i : (⟨1, ![1]⟩ : Shape).Idx, (Cert.On_codes_and_scale.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2.2 i = 1#1 → r.2.mem ((c.tc : Thread Cert.Reference.nD Cert.Reference.τ).loc Cert.Reference.main_arg3) i = v2 c i)
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hScaled : Cert.Scaled.Facts) (hScaledIdeal : Cert.ScaledIdeal.Facts) (hScaledReferenceIdeal : Cert.ScaledReferenceIdeal.Facts) (hReference : Cert.Reference.Facts) (hOn_codes_and_scale : Cert.On_codes_and_scale.Facts),
    quiescent_Kernel (hKernel := hKernel)
    ∧ quiescent_Scaled (hScaled := hScaled)
    ∧ quiescent_ScaledIdeal (hScaledIdeal := hScaledIdeal)
    ∧ quiescent_ScaledReferenceIdeal (hScaledReferenceIdeal := hScaledReferenceIdeal)
    ∧ quiescent_Reference (hReference := hReference)
    ∧ preserves_Scaled_ScaledIdeal
    ∧ algebraic_ScaledIdeal_ScaledReferenceIdeal (hScaledIdeal := hScaledIdeal) (hScaledReferenceIdeal := hScaledReferenceIdeal)
    ∧ bitexact_Kernel_Reference_on_codes_and_scale (hKernel := hKernel) (hReference := hReference) (hOn_codes_and_scale := hOn_codes_and_scale)
-- ==== On_codes_and_scale.lean ====
abbrev S3x8192x6016 : Shape := ⟨3, ![3, 8192, 6016]⟩
abbrev S6016x1536 : Shape := ⟨2, ![6016, 1536]⟩
abbrev S1536 : Shape := ⟨1, ![1536]⟩
abbrev S1 : Shape := ⟨1, ![1]⟩
abbrev S_ : Shape := ⟨0, ![]⟩
abbrev S3072x8x1536 : Shape := ⟨3, ![3072, 8, 1536]⟩

class Facts : Prop where
  bcast_S_S3072x8x1536 : S_.BroadcastsInDim S3072x8x1536 (![] : Fin 0 → Fin S3072x8x1536.rank)
  bcast_S_S3x8192x6016 : S_.BroadcastsInDim S3x8192x6016 (![] : Fin 0 → Fin S3x8192x6016.rank)
  bcast_S_S1 : S_.BroadcastsInDim S1 (![] : Fin 0 → Fin S1.rank)

variable [Facts]

def fn {F : FTy → Type} [FloatOps F] (main_arg0 : FVec F S3x8192x6016 .bf16) (main_arg1 : FVec F S6016x1536 .fp8e4m3) (main_arg2 : FVec F S1536 .f32) (main_arg3 : FVec F S1 .f32) : IVec S3072x8x1536 1 × IVec S3x8192x6016 1 × IVec S1 1 :=
  let main_c : IVec S_ 1 := constantI S_ 1 0#1
  let main_v0 : IVec S3072x8x1536 1 := broadcastInDim S3072x8x1536 ![] bcast_S_S3072x8x1536 main_c
  let main_c_0 : IVec S_ 1 := constantI S_ 1 1#1
  let main_v1 : IVec S3x8192x6016 1 := broadcastInDim S3x8192x6016 ![] bcast_S_S3x8192x6016 main_c_0
  let main_c_1 : IVec S_ 1 := constantI S_ 1 1#1
  let main_v2 : IVec S1 1 := broadcastInDim S1 ![] bcast_S_S1 main_c_1
  (main_v0, main_v1, main_v2)
-- ==== Kernel.lean ====
abbrev S3x8192x6016 : Shape := ⟨3, ![3, 8192, 6016]⟩
abbrev S6016x1536 : Shape := ⟨2, ![6016, 1536]⟩
abbrev S1536 : Shape := ⟨1, ![1536]⟩
abbrev S1 : Shape := ⟨1, ![1]⟩
abbrev S_ : Shape := ⟨0, ![]⟩
abbrev S1x1536 : Shape := ⟨2, ![1, 1536]⟩
abbrev S3072x8x1536 : Shape := ⟨3, ![3072, 8, 1536]⟩
abbrev S1x512x6016 : Shape := ⟨3, ![1, 512, 6016]⟩
abbrev S64x8x1536 : Shape := ⟨3, ![64, 8, 1536]⟩
abbrev S512x6016 : Shape := ⟨2, ![512, 6016]⟩
abbrev S512x1536 : Shape := ⟨2, ![512, 1536]⟩

abbrev nBuf : Space → Nat
  | .hbm => 116
  | .vmem => 8
  | .smem => 2
  | _ => 0

abbrev bufTy : (tb : Table) → Fin (tcTables nBuf tb) → BufTy
  | .hbm, ⟨0, _⟩ => ⟨S3x8192x6016, .bf16⟩
  | .hbm, ⟨1, _⟩ => ⟨S6016x1536, .fp8e4m3⟩
  | .hbm, ⟨2, _⟩ => ⟨S1536, .f32⟩
  | .hbm, ⟨3, _⟩ => ⟨S1, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S1, .i1⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1, .i32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S1, .f32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S1, .i1⟩
  | .hbm, ⟨83, _⟩ => ⟨S_, .i32⟩
  | .hbm, ⟨84, _⟩ => ⟨S1, .i32⟩
  | .hbm, ⟨85, _⟩ => ⟨S1, .i1⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S_, .i32⟩
  | .hbm, ⟨103, _⟩ => ⟨S1, .i32⟩
  | .hbm, ⟨104, _⟩ => ⟨S1, .i1⟩
  | .hbm, ⟨105, _⟩ => ⟨S_, .i32⟩
  | .hbm, ⟨106, _⟩ => ⟨S1, .i32⟩
  | .hbm, ⟨107, _⟩ => ⟨S1, .i1⟩
  | .hbm, ⟨108, _⟩ => ⟨S1, .i32⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .f32⟩
  | .hbm, ⟨113, _⟩ => ⟨S1x1536, .f32⟩
  | .hbm, ⟨114, _⟩ => ⟨S3072x8x1536, .bf16⟩
  | .hbm, ⟨115, _⟩ => ⟨S3x8192x6016, .fp8e4m3⟩
  | .local _ .vmem, ⟨0, _⟩ => ⟨S1x512x6016, .bf16⟩
  | .local _ .vmem, ⟨1, _⟩ => ⟨S1x512x6016, .bf16⟩
  | .local _ .vmem, ⟨2, _⟩ => ⟨S6016x1536, .fp8e4m3⟩
  | .local _ .vmem, ⟨3, _⟩ => ⟨S1x1536, .f32⟩
  | .local _ .vmem, ⟨4, _⟩ => ⟨S64x8x1536, .bf16⟩
  | .local _ .vmem, ⟨5, _⟩ => ⟨S64x8x1536, .bf16⟩
  | .local _ .vmem, ⟨6, _⟩ => ⟨S1x512x6016, .fp8e4m3⟩
  | .local _ .vmem, ⟨7, _⟩ => ⟨S1x512x6016, .fp8e4m3⟩
  | .local _ .smem, ⟨0, _⟩ => ⟨S1, .f32⟩
  | .local _ .smem, ⟨1, _⟩ => ⟨S1, .f32⟩
  | _, _ => ⟨S3x8192x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_call0_v15 : Ref sig .tc := ⟨.hbm, 25, rfl⟩
abbrev main_call0_c_5 : Ref sig .tc := ⟨.hbm, 26, rfl⟩
abbrev main_call0_v16 : Ref sig .tc := ⟨.hbm, 27, rfl⟩
abbrev main_call0_v17 : Ref sig .tc := ⟨.hbm, 28, rfl⟩
abbrev main_call0_c_6 : Ref sig .tc := ⟨.hbm, 29, rfl⟩
abbrev main_call0_v18 : Ref sig .tc := ⟨.hbm, 30, rfl⟩
abbrev main_call0_v19 : Ref sig .tc := ⟨.hbm, 31, rfl⟩
abbrev main_call0_c_7 : Ref sig .tc := ⟨.hbm, 32, rfl⟩
abbrev main_call0_v20 : Ref sig .tc := ⟨.hbm, 33, rfl⟩
abbrev main_call0_v21 : Ref sig .tc := ⟨.hbm, 34, rfl⟩
abbrev main_call0_c_8 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c_9 : Ref sig .tc := ⟨.hbm, 42, rfl⟩
abbrev main_call0_v28 : Ref sig .tc := ⟨.hbm, 43, rfl⟩
abbrev main_call0_v29 : Ref sig .tc := ⟨.hbm, 44, rfl⟩
abbrev main_call0_c_10 : Ref sig .tc := ⟨.hbm, 45, rfl⟩
abbrev main_call0_v30 : Ref sig .tc := ⟨.hbm, 46, rfl⟩
abbrev main_call0_v31 : Ref sig .tc := ⟨.hbm, 47, rfl⟩
abbrev main_v0_1 : Ref sig .tc := ⟨.hbm, 48, rfl⟩
abbrev main_v0_0 : Ref sig .tc := ⟨.hbm, 49, rfl⟩
abbrev main_cst : Ref sig .tc := ⟨.hbm, 50, rfl⟩
abbrev main_v1 : Ref sig .tc := ⟨.hbm, 51, rfl⟩
abbrev main_c : Ref sig .tc := ⟨.hbm, 52, rfl⟩
abbrev main_v2 : Ref sig .tc := ⟨.hbm, 53, rfl⟩
abbrev main_v3 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_v2 : Ref sig .tc := ⟨.hbm, 58, rfl⟩
abbrev main_call1_c_0 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_c_2 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_c_4 : Ref sig .tc := ⟨.hbm, 74, rfl⟩
abbrev main_call1_v14 : Ref sig .tc := ⟨.hbm, 75, rfl⟩
abbrev main_call1_v15 : Ref sig .tc := ⟨.hbm, 76, rfl⟩
abbrev main_call1_c_5 : Ref sig .tc := ⟨.hbm, 77, rfl⟩
abbrev main_call1_v16 : Ref sig .tc := ⟨.hbm, 78, rfl⟩
abbrev main_call1_v17 : Ref sig .tc := ⟨.hbm, 79, rfl⟩
abbrev main_call1_c_6 : Ref sig .tc := ⟨.hbm, 80, rfl⟩
abbrev main_call1_v18 : Ref sig .tc := ⟨.hbm, 81, rfl⟩
abbrev main_call1_v19 : Ref sig .tc := ⟨.hbm, 82, rfl⟩
abbrev main_call1_c_7 : Ref sig .tc := ⟨.hbm, 83, rfl⟩
abbrev main_call1_v20 : Ref sig .tc := ⟨.hbm, 84, rfl⟩
abbrev main_call1_v21 : Ref sig .tc := ⟨.hbm, 85, rfl⟩
abbrev main_call1_c_8 : Ref sig .tc := ⟨.hbm, 86, rfl⟩
abbrev main_call1_c_9 : Ref sig .tc := ⟨.hbm, 87, rfl⟩
abbrev main_call1_v22 : Ref sig .tc := ⟨.hbm, 88, rfl⟩
abbrev main_call1_v23 : Ref sig .tc := ⟨.hbm, 89, rfl⟩
abbrev main_call1_v24 : Ref sig .tc := ⟨.hbm, 90, rfl⟩
abbrev main_call1_v25 : Ref sig .tc := ⟨.hbm, 91, rfl⟩
abbrev main_call1_v26 : Ref sig .tc := ⟨.hbm, 92, rfl⟩
abbrev main_call1_c_10 : Ref sig .tc := ⟨.hbm, 93, rfl⟩
abbrev main_call1_v27 : Ref sig .tc := ⟨.hbm, 94, rfl⟩
abbrev main_call1_v28 : Ref sig .tc := ⟨.hbm, 95, rfl⟩
abbrev main_call1_v29 : Ref sig .tc := ⟨.hbm, 96, rfl⟩
abbrev main_call1_c_11 : Ref sig .tc := ⟨.hbm, 97, rfl⟩
abbrev main_call1_v30 : Ref sig .tc := ⟨.hbm, 98, rfl⟩
abbrev main_call1_v31 : Ref sig .tc := ⟨.hbm, 99, rfl⟩
abbrev main_call1_v32 : Ref sig .tc := ⟨.hbm, 100, rfl⟩
abbrev main_call1_v33 : Ref sig .tc := ⟨.hbm, 101, rfl⟩
abbrev main_call1_c_12 : Ref sig .tc := ⟨.hbm, 102, rfl⟩
abbrev main_call1_v34 : Ref sig .tc := ⟨.hbm, 103, rfl⟩
abbrev main_call1_v35 : Ref sig .tc := ⟨.hbm, 104, rfl⟩
abbrev main_call1_c_13 : Ref sig .tc := ⟨.hbm, 105, rfl⟩
abbrev main_call1_v36 : Ref sig .tc := ⟨.hbm, 106, rfl⟩
abbrev main_call1_v37 : Ref sig .tc := ⟨.hbm, 107, rfl⟩
abbrev main_call1_v38 : Ref sig .tc := ⟨.hbm, 108, rfl⟩
abbrev main_call1_v39 : Ref sig .tc := ⟨.hbm, 109, rfl⟩
abbrev main_call1_v40 : Ref sig .tc := ⟨.hbm, 110, rfl⟩
abbrev main_call1_v41 : Ref sig .tc := ⟨.hbm, 111, rfl⟩
abbrev main_v4 : Ref sig .tc := ⟨.hbm, 112, rfl⟩
abbrev main_v5 : Ref sig .tc := ⟨.hbm, 113, rfl⟩
abbrev main_v6_0 : Ref sig .tc := ⟨.hbm, 114, rfl⟩
abbrev main_v6_1 : Ref sig .tc := ⟨.hbm, 115, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨2, ![3, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x6016 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6016x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x8x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x6016 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Scaled.lean ====
abbrev S3x8192x6016 : Shape := ⟨3, ![3, 8192, 6016]⟩
abbrev S6016x1536 : Shape := ⟨2, ![6016, 1536]⟩
abbrev S1536 : Shape := ⟨1, ![1536]⟩
abbrev S1 : Shape := ⟨1, ![1]⟩
abbrev S1x1536 : Shape := ⟨2, ![1, 1536]⟩
abbrev S3072x8x1536 : Shape := ⟨3, ![3072, 8, 1536]⟩
abbrev S1x512x6016 : Shape := ⟨3, ![1, 512, 6016]⟩
abbrev S64x8x1536 : Shape := ⟨3, ![64, 8, 1536]⟩
abbrev S512x6016 : Shape := ⟨2, ![512, 6016]⟩
abbrev S512x1536 : Shape := ⟨2, ![512, 1536]⟩

abbrev nBuf : Space → Nat
  | .hbm => 8
  | .vmem => 8
  | .smem => 2
  | _ => 0

abbrev bufTy : (tb : Table) → Fin (tcTables nBuf tb) → BufTy
  | .hbm, ⟨0, _⟩ => ⟨S3x8192x6016, .bf16⟩
  | .hbm, ⟨1, _⟩ => ⟨S6016x1536, .fp8e4m3⟩
  | .hbm, ⟨2, _⟩ => ⟨S1536, .f32⟩
  | .hbm, ⟨3, _⟩ => ⟨S1, .f32⟩
  | .hbm, ⟨4, _⟩ => ⟨S1, .f32⟩
  | .hbm, ⟨5, _⟩ => ⟨S1x1536, .f32⟩
  | .hbm, ⟨6, _⟩ => ⟨S3072x8x1536, .bf16⟩
  | .hbm, ⟨7, _⟩ => ⟨S3x8192x6016, .fp8e4m3⟩
  | .local _ .vmem, ⟨0, _⟩ => ⟨S1x512x6016, .bf16⟩
  | .local _ .vmem, ⟨1, _⟩ => ⟨S1x512x6016, .bf16⟩
  | .local _ .vmem, ⟨2, _⟩ => ⟨S6016x1536, .fp8e4m3⟩
  | .local _ .vmem, ⟨3, _⟩ => ⟨S1x1536, .f32⟩
  | .local _ .vmem, ⟨4, _⟩ => ⟨S64x8x1536, .bf16⟩
  | .local _ .vmem, ⟨5, _⟩ => ⟨S64x8x1536, .bf16⟩
  | .local _ .vmem, ⟨6, _⟩ => ⟨S1x512x6016, .fp8e4m3⟩
  | .local _ .vmem, ⟨7, _⟩ => ⟨S1x512x6016, .fp8e4m3⟩
  | .local _ .smem, ⟨0, _⟩ => ⟨S1, .f32⟩
  | .local _ .smem, ⟨1, _⟩ => ⟨S1, .f32⟩
  | _, _ => ⟨S3x8192x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![3, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x6016 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6016x1536 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S64x8x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x6016 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ScaledReferenceIdeal.lean ====
abbrev S3x8192x6016 : Shape := ⟨3, ![3, 8192, 6016]⟩
abbrev S6016x1536 : Shape := ⟨2, ![6016, 1536]⟩
abbrev S1536 : Shape := ⟨1, ![1536]⟩
abbrev S1 : Shape := ⟨1, ![1]⟩
abbrev S3072x8x1536 : Shape := ⟨3, ![3072, 8, 1536]⟩
abbrev S1x1x1 : Shape := ⟨3, ![1, 1, 1]⟩
abbrev S3x8192x1536 : Shape := ⟨3, ![3, 8192, 1536]⟩
abbrev S1x1x1536 : Shape := ⟨3, ![1, 1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S3x8192x6016, .bf16⟩
  | .hbm, ⟨1, _⟩ => ⟨S6016x1536, .fp8e4m3⟩
  | .hbm, ⟨2, _⟩ => ⟨S1536, .f32⟩
  | .hbm, ⟨3, _⟩ => ⟨S1, .f32⟩
  | .hbm, ⟨4, _⟩ => ⟨S1, .f32⟩
  | .hbm, ⟨5, _⟩ => ⟨S3072x8x1536, .bf16⟩
  | .hbm, ⟨6, _⟩ => ⟨S3x8192x6016, .fp8e4m3⟩
  | .local _ .vmem, ⟨0, _⟩ => ⟨S3x8192x6016, .bf16⟩
  | .local _ .vmem, ⟨1, _⟩ => ⟨S6016x1536, .fp8e4m3⟩
  | .local _ .vmem, ⟨2, _⟩ => ⟨S1536, .f32⟩
  | .local _ .vmem, ⟨3, _⟩ => ⟨S1, .f32⟩
  | .local _ .vmem, ⟨4, _⟩ => ⟨S1, .f32⟩
  | .local _ .vmem, ⟨5, _⟩ => ⟨S3072x8x1536, .bf16⟩
  | .local _ .vmem, ⟨6, _⟩ => ⟨S3x8192x6016, .fp8e4m3⟩
  | _, _ => ⟨S3x8192x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x8192x6016 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6016x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8192x6016 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference.lean ====
abbrev S3x8192x6016 : Shape := ⟨3, ![3, 8192, 6016]⟩
abbrev S6016x1536 : Shape := ⟨2, ![6016, 1536]⟩
abbrev S1536 : Shape := ⟨1, ![1536]⟩
abbrev S1 : Shape := ⟨1, ![1]⟩
abbrev S_ : Shape := ⟨0, ![]⟩
abbrev S3072x8x1536 : Shape := ⟨3, ![3072, 8, 1536]⟩
abbrev S1x1x1 : Shape := ⟨3, ![1, 1, 1]⟩
abbrev S3x8192x1536 : Shape := ⟨3, ![3, 8192, 1536]⟩
abbrev S1x1x1536 : Shape := ⟨3, ![1, 1, 1536]⟩

abbrev nBuf : Space → Nat
  | .hbm => 115
  | .vmem => 7
  | .smem => 0
  | _ => 0

abbrev bufTy : (tb : Table) → Fin (tcTables nBuf tb) → BufTy
  | .hbm, ⟨0, _⟩ => ⟨S3x8192x6016, .bf16⟩
  | .hbm, ⟨1, _⟩ => ⟨S6016x1536, .fp8e4m3⟩
  | .hbm, ⟨2, _⟩ => ⟨S1536, .f32⟩
  | .hbm, ⟨3, _⟩ => ⟨S1, .f32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1, .i1⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S1, .i32⟩
  | .hbm, ⟨15, _⟩ => ⟨S1, .f32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S1, .i1⟩
  | .hbm, ⟨32, _⟩ => ⟨S_, .i32⟩
  | .hbm, ⟨33, _⟩ => ⟨S1, .i32⟩
  | .hbm, ⟨34, _⟩ => ⟨S1, .i1⟩
  | .hbm, ⟨35, _⟩ => ⟨S_, .i32⟩
  | .hbm, ⟨36, _⟩ => ⟨S1, .i32⟩
  | .hbm, ⟨37, _⟩ => ⟨S1, .i32⟩
  | .hbm, ⟨38, _⟩ => ⟨S1, .i32⟩
  | .hbm, ⟨39, _⟩ => ⟨S1, .i32⟩
  | .hbm, ⟨40, _⟩ => ⟨S1, .i32⟩
  | .hbm, ⟨41, _⟩ => ⟨S1, .i1⟩
  | .hbm, ⟨42, _⟩ => ⟨S_, .i32⟩
  | .hbm, ⟨43, _⟩ => ⟨S1, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S1, .i32⟩
  | .hbm, ⟨48, _⟩ => ⟨S1, .i32⟩
  | .hbm, ⟨49, _⟩ => ⟨S1, .f32⟩
  | .hbm, ⟨50, _⟩ => ⟨S_, .f32⟩
  | .hbm, ⟨51, _⟩ => ⟨S1, .f32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S_, .i32⟩
  | .hbm, ⟨63, _⟩ => ⟨S1, .i32⟩
  | .hbm, ⟨64, _⟩ => ⟨S1, .i32⟩
  | .hbm, ⟨65, _⟩ => ⟨S1, .i32⟩
  | .hbm, ⟨66, _⟩ => ⟨S1, .f32⟩
  | .hbm, ⟨67, _⟩ => ⟨S1, .i32⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S_, .i32⟩
  | .hbm, ⟨72, _⟩ => ⟨S1, .i32⟩
  | .hbm, ⟨73, _⟩ => ⟨S1, .i32⟩
  | .hbm, ⟨74, _⟩ => ⟨S_, .i32⟩
  | .hbm, ⟨75, _⟩ => ⟨S1, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S_, .i32⟩
  | .hbm, ⟨81, _⟩ => ⟨S1, .i32⟩
  | .hbm, ⟨82, _⟩ => ⟨S1, .i1⟩
  | .hbm, ⟨83, _⟩ => ⟨S_, .i32⟩
  | .hbm, ⟨84, _⟩ => ⟨S1, .i32⟩
  | .hbm, ⟨85, _⟩ => ⟨S1, .i1⟩
  | .hbm, ⟨86, _⟩ => ⟨S_, .i32⟩
  | .hbm, ⟨87, _⟩ => ⟨S_, .i32⟩
  | .hbm, ⟨88, _⟩ => ⟨S1, .i32⟩
  | .hbm, ⟨89, _⟩ => ⟨S1, .i32⟩
  | .hbm, ⟨90, _⟩ => ⟨S1, .i32⟩
  | .hbm, ⟨91, _⟩ => ⟨S1, .i32⟩
  | .hbm, ⟨92, _⟩ => ⟨S1, .i32⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S1, .i32⟩
  | .hbm, ⟨97, _⟩ => ⟨S_, .i32⟩
  | .hbm, ⟨98, _⟩ => ⟨S1, .i32⟩
  | .hbm, ⟨99, _⟩ => ⟨S1, .i32⟩
  | .hbm, ⟨100, _⟩ => ⟨S1, .i32⟩
  | .hbm, ⟨101, _⟩ => ⟨S1, .i32⟩
  | .hbm, ⟨102, _⟩ => ⟨S_, .i32⟩
  | .hbm, ⟨103, _⟩ => ⟨S1, .i32⟩
  | .hbm, ⟨104, _⟩ => ⟨S1, .i1⟩
  | .hbm, ⟨105, _⟩ => ⟨S_, .i32⟩
  | .hbm, ⟨106, _⟩ => ⟨S1, .i32⟩
  | .hbm, ⟨107, _⟩ => ⟨S1, .i1⟩
  | .hbm, ⟨108, _⟩ => ⟨S1, .i32⟩
  | .hbm, ⟨109, _⟩ => ⟨S1, .i32⟩
  | .hbm, ⟨110, _⟩ => ⟨S1, .i32⟩
  | .hbm, ⟨111, _⟩ => ⟨S1, .i32⟩
  | .hbm, ⟨112, _⟩ => ⟨S1, .f32⟩
  | .hbm, ⟨113, _⟩ => ⟨S3072x8x1536, .bf16⟩
  | .hbm, ⟨114, _⟩ => ⟨S3x8192x6016, .fp8e4m3⟩
  | .local _ .vmem, ⟨0, _⟩ => ⟨S3x8192x6016, .bf16⟩
  | .local _ .vmem, ⟨1, _⟩ => ⟨S6016x1536, .fp8e4m3⟩
  | .local _ .vmem, ⟨2, _⟩ => ⟨S1536, .f32⟩
  | .local _ .vmem, ⟨3, _⟩ => ⟨S1, .f32⟩
  | .local _ .vmem, ⟨4, _⟩ => ⟨S1, .f32⟩
  | .local _ .vmem, ⟨5, _⟩ => ⟨S3072x8x1536, .bf16⟩
  | .local _ .vmem, ⟨6, _⟩ => ⟨S3x8192x6016, .fp8e4m3⟩
  | _, _ => ⟨S3x8192x6016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_c_0 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_call0_v15 : Ref sig .tc := ⟨.hbm, 25, rfl⟩
abbrev main_call0_c_5 : Ref sig .tc := ⟨.hbm, 26, rfl⟩
abbrev main_call0_v16 : Ref sig .tc := ⟨.hbm, 27, rfl⟩
abbrev main_call0_v17 : Ref sig .tc := ⟨.hbm, 28, rfl⟩
abbrev main_call0_c_6 : Ref sig .tc := ⟨.hbm, 29, rfl⟩
abbrev main_call0_v18 : Ref sig .tc := ⟨.hbm, 30, rfl⟩
abbrev main_call0_v19 : Ref sig .tc := ⟨.hbm, 31, rfl⟩
abbrev main_call0_c_7 : Ref sig .tc := ⟨.hbm, 32, rfl⟩
abbrev main_call0_v20 : Ref sig .tc := ⟨.hbm, 33, rfl⟩
abbrev main_call0_v21 : Ref sig .tc := ⟨.hbm, 34, rfl⟩
abbrev main_call0_c_8 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_c_9 : Ref sig .tc := ⟨.hbm, 42, rfl⟩
abbrev main_call0_v28 : Ref sig .tc := ⟨.hbm, 43, rfl⟩
abbrev main_call0_v29 : Ref sig .tc := ⟨.hbm, 44, rfl⟩
abbrev main_call0_c_10 : Ref sig .tc := ⟨.hbm, 45, rfl⟩
abbrev main_call0_v30 : Ref sig .tc := ⟨.hbm, 46, rfl⟩
abbrev main_call0_v31 : Ref sig .tc := ⟨.hbm, 47, rfl⟩
abbrev main_v0_1 : Ref sig .tc := ⟨.hbm, 48, rfl⟩
abbrev main_v0_0 : Ref sig .tc := ⟨.hbm, 49, rfl⟩
abbrev main_cst : Ref sig .tc := ⟨.hbm, 50, rfl⟩
abbrev main_v1 : Ref sig .tc := ⟨.hbm, 51, rfl⟩
abbrev main_c : Ref sig .tc := ⟨.hbm, 52, rfl⟩
abbrev main_v2 : Ref sig .tc := ⟨.hbm, 53, rfl⟩
abbrev main_v3 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_v2 : Ref sig .tc := ⟨.hbm, 58, rfl⟩
abbrev main_call1_c_0 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_c_2 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_c_4 : Ref sig .tc := ⟨.hbm, 74, rfl⟩
abbrev main_call1_v14 : Ref sig .tc := ⟨.hbm, 75, rfl⟩
abbrev main_call1_v15 : Ref sig .tc := ⟨.hbm, 76, rfl⟩
abbrev main_call1_c_5 : Ref sig .tc := ⟨.hbm, 77, rfl⟩
abbrev main_call1_v16 : Ref sig .tc := ⟨.hbm, 78, rfl⟩
abbrev main_call1_v17 : Ref sig .tc := ⟨.hbm, 79, rfl⟩
abbrev main_call1_c_6 : Ref sig .tc := ⟨.hbm, 80, rfl⟩
abbrev main_call1_v18 : Ref sig .tc := ⟨.hbm, 81, rfl⟩
abbrev main_call1_v19 : Ref sig .tc := ⟨.hbm, 82, rfl⟩
abbrev main_call1_c_7 : Ref sig .tc := ⟨.hbm, 83, rfl⟩
abbrev main_call1_v20 : Ref sig .tc := ⟨.hbm, 84, rfl⟩
abbrev main_call1_v21 : Ref sig .tc := ⟨.hbm, 85, rfl⟩
abbrev main_call1_c_8 : Ref sig .tc := ⟨.hbm, 86, rfl⟩
abbrev main_call1_c_9 : Ref sig .tc := ⟨.hbm, 87, rfl⟩
abbrev main_call1_v22 : Ref sig .tc := ⟨.hbm, 88, rfl⟩
abbrev main_call1_v23 : Ref sig .tc := ⟨.hbm, 89, rfl⟩
abbrev main_call1_v24 : Ref sig .tc := ⟨.hbm, 90, rfl⟩
abbrev main_call1_v25 : Ref sig .tc := ⟨.hbm, 91, rfl⟩
abbrev main_call1_v26 : Ref sig .tc := ⟨.hbm, 92, rfl⟩
abbrev main_call1_c_10 : Ref sig .tc := ⟨.hbm, 93, rfl⟩
abbrev main_call1_v27 : Ref sig .tc := ⟨.hbm, 94, rfl⟩
abbrev main_call1_v28 : Ref sig .tc := ⟨.hbm, 95, rfl⟩
abbrev main_call1_v29 : Ref sig .tc := ⟨.hbm, 96, rfl⟩
abbrev main_call1_c_11 : Ref sig .tc := ⟨.hbm, 97, rfl⟩
abbrev main_call1_v30 : Ref sig .tc := ⟨.hbm, 98, rfl⟩
abbrev main_call1_v31 : Ref sig .tc := ⟨.hbm, 99, rfl⟩
abbrev main_call1_v32 : Ref sig .tc := ⟨.hbm, 100, rfl⟩
abbrev main_call1_v33 : Ref sig .tc := ⟨.hbm, 101, rfl⟩
abbrev main_call1_c_12 : Ref sig .tc := ⟨.hbm, 102, rfl⟩
abbrev main_call1_v34 : Ref sig .tc := ⟨.hbm, 103, rfl⟩
abbrev main_call1_v35 : Ref sig .tc := ⟨.hbm, 104, rfl⟩
abbrev main_call1_c_13 : Ref sig .tc := ⟨.hbm, 105, rfl⟩
abbrev main_call1_v36 : Ref sig .tc := ⟨.hbm, 106, rfl⟩
abbrev main_call1_v37 : Ref sig .tc := ⟨.hbm, 107, rfl⟩
abbrev main_call1_v38 : Ref sig .tc := ⟨.hbm, 108, rfl⟩
abbrev main_call1_v39 : Ref sig .tc := ⟨.hbm, 109, rfl⟩
abbrev main_call1_v40 : Ref sig .tc := ⟨.hbm, 110, rfl⟩
abbrev main_call1_v41 : Ref sig .tc := ⟨.hbm, 111, rfl⟩
abbrev main_v4 : Ref sig .tc := ⟨.hbm, 112, rfl⟩
abbrev main_v5_0 : Ref sig .tc := ⟨.hbm, 113, rfl⟩
abbrev main_v5_1 : Ref sig .tc := ⟨.hbm, 114, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [BitOps F]

abbrev grid0 : Pipeline.Grid := .none

abbrev stage0_0 : Fin 1 → Memref sig .tc .vmem S3x8192x6016 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6016x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x8192x6016 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.ScaledBlock.lean ====
module

public import proofs.«01_k».proof.Proof.Gen.ScaledIdeal.Frame
public import proofs.«01_k».proof.Proof.Gen.ScaledReferenceIdeal.Skeleton
public import Idealize.ShloMosaic.Lib.Pipeline.ValueKit
public import Idealize.ShloMosaic.Lib.Pointwise

@[expose] public section

set_option maxRecDepth 16384

noncomputable section

namespace Cert.ScaledIdeal.Hand

open Cert.ScaledIdeal Cert.ScaledIdeal.Gen
open Idealize.ShloMosaic Idealize.ShloMosaic.TcCoe Idealize.SL.Sem
open Idealize.ShloMosaic.Pipeline (Dat)

variable {F : FTy → Type} [FloatOps F]

/-- The load of the one word of a scalar operand reads that word. -/
theorem ld_one (x : Vec F S1 .f32) (j : S1.Idx) : x j = x (ix1 0) :=
  congrArg x (funext fun a => by fin_cases a; exact Subsingleton.elim (α := Fin 1) _ _)

/-- WHAT THE BODY LEAVES in the block of codes: its one store's value, at the blocks it loads. -/
theorem out_codes (c : Dev nD) (i : grid0.Coords) (arg2 : Memref sig .tc .smem S1 .f32) (harg2 : arg2.IsWhole) (arg3 : Memref sig .tc .smem S1 .f32) (harg3 : arg3.IsWhole) (arg4 : Memref sig .tc .vmem S1x512x6016 .bf16) (harg4 : arg4.IsWhole) (arg5 : Memref sig .tc .vmem S6016x1536 .fp8e4m3) (harg5 : arg5.IsWhole) (arg6 : Memref sig .tc .vmem S1x1536 .f32) (harg6 : arg6.IsWhole) (arg7 : Memref sig .tc .vmem S64x8x1536 .bf16) (harg7 : arg7.IsWhole) (arg8 : Memref sig .tc .vmem S1x512x6016 .fp8e4m3) (harg8 : arg8.IsWhole)
    (x0 : Vec F S1 .f32) (x1 : Vec F S1 .f32) (x2 : Vec F S1x512x6016 .bf16) (x3 : Vec F S6016x1536 .fp8e4m3) (x4 : Vec F S1x1536 .f32) :
    out0_A_6 c i arg2 harg2 arg3 harg3 arg4 harg4 arg5 harg5 arg6 harg6 arg7 harg7 arg8 harg8 x0 x1 x2 x3 x4
      = k0_pay2 x2 (x0 (ix1 0)) := by
  frame_out
  exact congrArg _ (ld_one x0 _)

/-- WHAT THE BODY LEAVES in the block of `y`. -/
theorem out_y (c : Dev nD) (i : grid0.Coords) (arg2 : Memref sig .tc .smem S1 .f32) (harg2 : arg2.IsWhole) (arg3 : Memref sig .tc .smem S1 .f32) (harg3 : arg3.IsWhole) (arg4 : Memref sig .tc .vmem S1x512x6016 .bf16) (harg4 : arg4.IsWhole) (arg5 : Memref sig .tc .vmem S6016x1536 .fp8e4m3) (harg5 : arg5.IsWhole) (arg6 : Memref sig .tc .vmem S1x1536 .f32) (harg6 : arg6.IsWhole) (arg7 : Memref sig .tc .vmem S64x8x1536 .bf16) (harg7 : arg7.IsWhole) (arg8 : Memref sig .tc .vmem S1x512x6016 .fp8e4m3) (harg8 : arg8.IsWhole)
    (x0 : Vec F S1 .f32) (x1 : Vec F S1 .f32) (x2 : Vec F S1x512x6016 .bf16) (x3 : Vec F S6016x1536 .fp8e4m3) (x4 : Vec F S1x1536 .f32) :
    out0_A_5 c i arg2 harg2 arg3 harg3 arg4 harg4 arg5 harg5 arg6 harg6 arg7 harg7 arg8 harg8 x0 x1 x2 x3 x4
      = k0_pay3 x2 (x0 (ix1 0)) x3 (x1 (ix1 0)) x4 := by
  frame_out
  exact (congrArg (fun a => k0_pay3 x2 a x3 _ x4) (ld_one x0 _)).trans (congrArg (fun a => k0_pay3 x2 _ x3 a x4) (ld_one x1 _))

/-- One code from one element and the reciprocal scale: multiply, clip at the largest code, round to the format. -/
def quant (x : F .bf16) (s : F .f32) : F .fp8e4m3 :=
  FloatOps.truncf .fp8e4m3 bitsLt_fp8e4m3_f32 (FloatOps.minimumf (Scalar.ofBits .f32 0x43E00000#32)
    (FloatOps.maximumf (Scalar.ofBits .f32 0xC3E00000#32) (FloatOps.mulf (FloatOps.extf .f32 bitsLt_bf16_f32 x) s)))

/-- The codes of a block, read at an index. -/
theorem pay2_at (B : Vec F S1x512x6016 .bf16) (s : F .f32) (y : S1x512x6016.Idx) : k0_pay2 B s y = quant (B y) s := by
  pointwise [k0_pay2, k0_pay1, quant]
  trace_state

/-- The codes of the whole array, read at an index. -/
theorem ref_codes_at (X : Vec F S3x8192x6016 .bf16) (s : Vec F S1 .f32) (i : S3x8192x6016.Idx) :
    Cert.ScaledReferenceIdeal.Gen.k0_pay1 X s i = quant (X i) (s (ix1 0)) := by
  pointwise [Cert.ScaledReferenceIdeal.Gen.k0_pay1, quant]
  trace_state

end Cert.ScaledIdeal.Hand

end
-- ==== Proof.ScaledCodes.lean ====
module

public import proofs.«01_k».proof.Proof.ScaledBlock

@[expose] public section

set_option maxRecDepth 16384

noncomputable section

namespace Cert.ScaledIdeal.Hand

open Cert.ScaledIdeal Cert.ScaledIdeal.Gen
open Idealize.ShloMosaic Idealize.ShloMosaic.TcCoe Idealize.SL.Sem
open Idealize.ShloMosaic.Pipeline (Dat)

variable {F : FTy → Type} [FloatOps F] (m : (ℓ : Loc nD τ sig) → Buf (Elt F) ℓ)

/-- The block each window is at, at grid point `t`: 16 blocks of 512 rows in each of the 3 batches. -/
theorem idx : ∀ t : Fin cfg0.N, win0_0.index t = ![0] ∧ win0_1.index t = ![0]
    ∧ win0_2.index t = ![t.val / 16, t.val % 16, 0] ∧ win0_3.index t = ![0, 0] ∧ win0_4.index t = ![0, 0]
    ∧ win0_5.index t = ![t.val, 0, 0] ∧ win0_6.index t = ![t.val / 16, t.val % 16, 0] :=
  (by decide +kernel : ∀ t : Fin grid0.N, _)

/-- The reciprocal scale the body loads is the argument's one word. -/
theorem inv_read (c : Dev nD) (t : Fin cfg0.N) :
    (iblk m c 0 t : Vec F S1 .f32) (ix1 0) = (m ((c : Thread nD τ).loc main_arg4) : Vec F S1 .f32) (ix1 0) := by
  rw [← V_main_arg4 m c]
  blk_ext [iblk, idx t]

/-- WHAT ONE BLOCK STORES, codes: the reference's codes of the whole array, at the place the block sits. -/
theorem codes_point (c : Dev nD) (t : Fin cfg0.N) (y : S1x512x6016.Idx) :
    k0_pay2 (iblk m c 2 t) ((iblk m c 0 t : Vec F S1 .f32) (ix1 0)) y
      = Cert.ScaledReferenceIdeal.Gen.k0_pay1 (m ((c : Thread nD τ).loc main_arg0)) (m ((c : Thread nD τ).loc main_arg4))
          (((cfg0.win 6).blk t).view.emb y) := by
  rw [inv_read]
  refine (pay2_at _ _ y).trans (Eq.trans (congrArg (fun a => quant a _) ?_) (ref_codes_at _ _ _).symm)
  rw [← V_main_arg0 m c]
  blk_ext [iblk, idx t]

/-- THE CODES AFTER THE RUN: the reference's codes of the argument arrays. -/
theorem codes_final (c : Dev nD) : (dats m 0 c).arrAt 6 (cfgs 0).N
    = Cert.ScaledReferenceIdeal.Gen.k0_pay1 (m ((c : Thread nD τ).loc main_arg0)) (m ((c : Thread nD τ).loc main_arg4)) := by
  refine (dats m 0 c).arrAt_eq_of_covers 6 _ (by decide +kernel) fun t _ y => ?_
  blk_simp
  rw [after0_6]
  unfold outsAt0
  dsimp only
  rw [out_codes]
  exact codes_point m c t y

end Cert.ScaledIdeal.Hand

end
-- ==== Proof.ScaledY.lean ====
module

public import proofs.«01_k».proof.Proof.ScaledCodes

@[expose] public section

set_option maxRecDepth 16384

noncomputable section

namespace Cert.ScaledIdeal.Hand

open Cert.ScaledIdeal Cert.ScaledIdeal.Gen
open Idealize.ShloMosaic Idealize.ShloMosaic.TcCoe Idealize.SL.Sem
open Idealize.ShloMosaic.Pipeline (Dat)

variable (m : (ℓ : Loc nD τ sig) → Buf (Elt Ideal) ℓ)

/-- WHAT ONE BLOCK STORES, `y`: the reference's `y` of the whole arrays, at the place the block sits. -/
theorem y_point (c : Dev nD) (t : Fin cfg0.N) (y : S64x8x1536.Idx) :
    k0_pay3 (iblk m c 2 t) ((iblk m c 0 t : Vec Ideal S1 .f32) (ix1 0)) (iblk m c 3 t) ((iblk m c 1 t : Vec Ideal S1 .f32) (ix1 0)) (iblk m c 4 t) y
      = Cert.ScaledReferenceIdeal.Gen.k0_pay2 (m ((c : Thread nD τ).loc main_arg0)) (m ((c : Thread nD τ).loc main_arg4))
          (m ((c : Thread nD τ).loc main_arg1)) (m ((c : Thread nD τ).loc main_arg3)) (m ((c : Thread nD τ).loc main_arg2))
          (((cfg0.win 5).blk t).view.emb y) := by
  pointwise [k0_pay3, k0_pay1, Cert.ScaledReferenceIdeal.Gen.k0_pay1, Cert.ScaledReferenceIdeal.Gen.k0_pay2]
  blk_point [iblk, V, idx t]

/-- `y` AFTER THE RUN: the reference's `y` of the argument arrays. -/
theorem y_final (c : Dev nD) : (dats m 0 c).arrAt 5 (cfgs 0).N
    = Cert.ScaledReferenceIdeal.Gen.k0_pay2 (m ((c : Thread nD τ).loc main_arg0)) (m ((c : Thread nD τ).loc main_arg4))
        (m ((c : Thread nD τ).loc main_arg1)) (m ((c : Thread nD τ).loc main_arg3)) (m ((c : Thread nD τ).loc main_arg2)) := by
  refine (dats m 0 c).arrAt_eq_of_covers 5 _ (by decide +kernel) fun t _ y => ?_
  blk_simp
  rw [after0_5]
  unfold outsAt0
  dsimp only
  rw [out_y]
  exact y_point m c t y

end Cert.ScaledIdeal.Hand

end
-- ==== Proof.Algebraic.lean ====
module

public import proofs.«01_k».proof.Defs
public import proofs.«01_k».proof.Proof.Gen.ScaledIdeal.Value
public import proofs.«01_k».proof.Proof.Gen.ScaledReferenceIdeal.Value
public import proofs.«01_k».proof.Proof.ScaledY

@[expose] public section

noncomputable section

namespace Cert.Proof

open Idealize.ShloMosaic Idealize.ShloMosaic.TcCoe Idealize.SL.Sem

/-- ALGEBRAIC: over the extended reals the pipelined kernel's `y`, codes and scale are the reference's, for every
    activation, weight, weight scale, activation scale and reciprocal scale. -/
theorem algebraic : algebraic_ScaledIdeal_ScaledReferenceIdeal := by
  intro m ρ m' ρ' _ hagree
  refine ⟨fun c => Cert.ScaledReferenceIdeal.Gen.k0_pay2
        (m ((c.tc : Thread Cert.ScaledIdeal.nD Cert.ScaledIdeal.τ).loc Cert.ScaledIdeal.main_arg0))
        (m ((c.tc : Thread Cert.ScaledIdeal.nD Cert.ScaledIdeal.τ).loc Cert.ScaledIdeal.main_arg4))
        (m ((c.tc : Thread Cert.ScaledIdeal.nD Cert.ScaledIdeal.τ).loc Cert.ScaledIdeal.main_arg1))
        (m ((c.tc : Thread Cert.ScaledIdeal.nD Cert.ScaledIdeal.τ).loc Cert.ScaledIdeal.main_arg3))
        (m ((c.tc : Thread Cert.ScaledIdeal.nD Cert.ScaledIdeal.τ).loc Cert.ScaledIdeal.main_arg2)),
    fun c => Cert.ScaledReferenceIdeal.Gen.k0_pay1
        (m ((c.tc : Thread Cert.ScaledIdeal.nD Cert.ScaledIdeal.τ).loc Cert.ScaledIdeal.main_arg0))
        (m ((c.tc : Thread Cert.ScaledIdeal.nD Cert.ScaledIdeal.τ).loc Cert.ScaledIdeal.main_arg4)),
    fun c => m ((c.tc : Thread Cert.ScaledIdeal.nD Cert.ScaledIdeal.τ).loc Cert.ScaledIdeal.main_arg3), ?_, ?_⟩
  · refine (θ_run _ _ _).mono (fun _ h c => ?_) (Cert.ScaledIdeal.Value.run_blocks m ρ)
    obtain ⟨h0, h1, k0, k1, k2, k3, k4⟩ := h c
    exact ⟨h0.trans (Cert.ScaledIdeal.Hand.y_final m c), h1.trans (Cert.ScaledIdeal.Hand.codes_final m c), k3, k0, k1, k2, k3, k4⟩
  · refine (θ_run _ _ _).mono (fun _ h c => ?_) (Cert.ScaledReferenceIdeal.Value.run m' ρ')
    obtain ⟨h0, h1, k0, k1, k2, k3, k4⟩ := h c
    obtain ⟨e0, e1, e2, e3, e4⟩ := hagree c
    rw [e0, e1, e2, e3, e4] at h0 h1
    exact ⟨h0, h1, k3.trans e3, k0, k1, k2, k3, k4⟩

end Cert.Proof

end
-- ==== Proof.KernelBlock.lean ====
module

public import proofs.«01_k».proof.Proof.Gen.Kernel.Frame
public import proofs.«01_k».proof.Proof.Gen.Reference.Skeleton
public import Idealize.ShloMosaic.Lib.Pipeline.ValueKit
public import Idealize.ShloMosaic.Lib.Pointwise

@[expose] public section

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [BitOps F]

/-- The load of the one word of a scalar operand reads that word. -/
theorem ld_one (x : Vec F S1 .f32) (j : S1.Idx) : x j = x (ix1 0) :=
  congrArg x (funext fun a => by fin_cases a; exact Subsingleton.elim (α := Fin 1) _ _)

/-- WHAT THE BODY LEAVES in the block of codes: its one store's value, at the blocks it loads. -/
theorem out_codes (c : Dev nD) (i : grid0.Coords) (arg2 : Memref sig .tc .smem S1 .f32) (harg2 : arg2.IsWhole) (arg3 : Memref sig .tc .smem S1 .f32) (harg3 : arg3.IsWhole) (arg4 : Memref sig .tc .vmem S1x512x6016 .bf16) (harg4 : arg4.IsWhole) (arg5 : Memref sig .tc .vmem S6016x1536 .fp8e4m3) (harg5 : arg5.IsWhole) (arg6 : Memref sig .tc .vmem S1x1536 .f32) (harg6 : arg6.IsWhole) (arg7 : Memref sig .tc .vmem S64x8x1536 .bf16) (harg7 : arg7.IsWhole) (arg8 : Memref sig .tc .vmem S1x512x6016 .fp8e4m3) (harg8 : arg8.IsWhole)
    (x0 : Vec F S1 .f32) (x1 : Vec F S1 .f32) (x2 : Vec F S1x512x6016 .bf16) (x3 : Vec F S6016x1536 .fp8e4m3) (x4 : Vec F S1x1536 .f32) :
    out0_A_6 c i arg2 harg2 arg3 harg3 arg4 harg4 arg5 harg5 arg6 harg6 arg7 harg7 arg8 harg8 x0 x1 x2 x3 x4
      = k0_pay2 x2 (x0 (ix1 0)) := by
  frame_out
  exact congrArg _ (ld_one x0 _)

/-- One code from one element and the reciprocal scale: multiply, clip at the largest code, round to the format. -/
def quant (x : F .bf16) (s : F .f32) : F .fp8e4m3 :=
  FloatOps.truncf .fp8e4m3 bitsLt_fp8e4m3_f32 (FloatOps.minimumf (Scalar.ofBits .f32 0x43E00000#32)
    (FloatOps.maximumf (Scalar.ofBits .f32 0xC3E00000#32) (FloatOps.mulf (FloatOps.extf .f32 bitsLt_bf16_f32 x) s)))

/-- The codes of a block, read at an index. -/
theorem pay2_at (B : Vec F S1x512x6016 .bf16) (s : F .f32) (y : S1x512x6016.Idx) : k0_pay2 B s y = quant (B y) s := by
  pointwise [k0_pay2, k0_pay1, quant]
  trace_state

/-- The codes of the whole array in the reference, read at an index. -/
theorem ref_codes_at (X : Vec F S3x8192x6016 .bf16) (s : Vec F S1 .f32) (i : S3x8192x6016.Idx) :
    Cert.Reference.Gen.k0_pay1 X s i = quant (X i) (s (ix1 0)) := by
  pointwise [Cert.Reference.Gen.k0_pay1, quant]
  trace_state

end Cert.Kernel.Hand

end
-- ==== Proof.KernelCodes.lean ====
module

public import proofs.«01_k».proof.Proof.KernelBlock

@[expose] public section

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [BitOps F] (m : (ℓ : Loc nD τ sig) → Buf (Elt F) ℓ)

/-- The block each window is at, at grid point `t`: 16 blocks of 512 rows in each of the 3 batches. -/
theorem idx : ∀ t : Fin cfg0.N, win0_0.index t = ![0] ∧ win0_1.index t = ![0]
    ∧ win0_2.index t = ![t.val / 16, t.val % 16, 0] ∧ win0_3.index t = ![0, 0] ∧ win0_4.index t = ![0, 0]
    ∧ win0_5.index t = ![t.val, 0, 0] ∧ win0_6.index t = ![t.val / 16, t.val % 16, 0] :=
  (by decide +kernel : ∀ t : Fin grid0.N, _)

/-- The reciprocal scale the body loads is the one word the host lines leave. -/
theorem inv_read (c : Dev nD) (t : Fin cfg0.N) :
    (iblk m c 0 t : Vec F S1 .f32) (ix1 0) = (V m c main_v4 : Vec F S1 .f32) (ix1 0) := by
  blk_ext [iblk, idx t]

/-- The block of activations and the block of codes sit at the same place. -/
theorem emb_x (t : Fin cfg0.N) (X : Vec F S3x8192x6016 .bf16) (y : S1x512x6016.Idx) :
    X (((cfg0.win 2).blk t).view.emb y) = X (((cfg0.win 6).blk t).view.emb y) := by
  blk_ext [idx t]

/-- The activations the body loads are the argument's, at the place the block of codes sits. -/
theorem x_read (c : Dev nD) (t : Fin cfg0.N) (y : S1x512x6016.Idx) :
    (iblk m c 2 t : Vec F S1x512x6016 .bf16) y
      = (m ((c : Thread nD τ).loc main_arg0) : Vec F S3x8192x6016 .bf16) (((cfg0.win 6).blk t).view.emb y) := by
  have e : (iblk m c 2 t : Vec F S1x512x6016 .bf16) y
      = (V m c main_arg0 : Vec F S3x8192x6016 .bf16) (((cfg0.win 2).blk t).view.emb y) := rfl
  rw [e, V_main_arg0]
  exact emb_x t _ y

/-- WHAT ONE BLOCK STORES, codes: the reference's codes of the whole array, at the place the block sits; `s` is the
    reciprocal scale the host lines leave. -/
theorem codes_point (c : Dev nD) (t : Fin cfg0.N) (y : S1x512x6016.Idx) (s : Vec F S1 .f32) (hs : V m c main_v4 = s) :
    k0_pay2 (iblk m c 2 t) ((iblk m c 0 t : Vec F S1 .f32) (ix1 0)) y
      = Cert.Reference.Gen.k0_pay1 (m ((c : Thread nD τ).loc main_arg0)) s (((cfg0.win 6).blk t).view.emb y) := by
  rw [inv_read, hs]
  exact (pay2_at _ _ y).trans ((congrArg (fun a => quant a _) (x_read m c t y)).trans (ref_codes_at _ s _).symm)

/-- THE CODES AFTER THE RUN: the reference's codes of the argument arrays. -/
theorem codes_final (c : Dev nD) (s : Vec F S1 .f32) (hs : V m c main_v4 = s) : (dats m 0 c).arrAt 6 (cfgs 0).N
    = Cert.Reference.Gen.k0_pay1 (m ((c : Thread nD τ).loc main_arg0)) s := by
  refine (dats m 0 c).arrAt_eq_of_covers 6 _ (by decide +kernel) fun t _ y => ?_
  blk_simp
  rw [after0_6]
  unfold outsAt0
  dsimp only
  rw [out_codes]
  exact codes_point m c t y s hs

end Cert.Kernel.Hand

end
-- ==== Proof.ReferenceCodes.lean ====
module

public import proofs.«01_k».proof.Proof.Gen.Reference.Frame
public import Idealize.ShloMosaic.Lib.Pipeline.ValueKit

@[expose] public section

set_option maxRecDepth 16384

noncomputable section

namespace Cert.Reference.Hand

open Cert.Reference Cert.Reference.Gen
open Idealize.ShloMosaic Idealize.ShloMosaic.TcCoe Idealize.SL.Sem
open Idealize.ShloMosaic.Pipeline (Dat)

variable {F : FTy → Type} [BitOps F] (m : (ℓ : Loc nD τ sig) → Buf (Elt F) ℓ)

/-- Every window of the reference's one grid point is its whole array. -/
theorem idx : ∀ t : Fin cfg0.N, win0_0.index t = ![0, 0, 0] ∧ win0_4.index t = ![0] ∧ win0_6.index t = ![0, 0, 0] :=
  (by decide +kernel : ∀ t : Fin grid0.N, _)

/-- The window over the activations places every index where it is. -/
theorem emb_x (X : Vec F S3x8192x6016 .bf16) (y : S3x8192x6016.Idx) : X (((cfg0.win 0).blk t0_0).view.emb y) = X y := by
  blk_ext [idx t0_0]

/-- The window over the reciprocal scale places its one index where it is. -/
theorem emb_inv (X : Vec F S1 .f32) (y : S1.Idx) : X (((cfg0.win 4).blk t0_0).view.emb y) = X y := by
  blk_ext [idx t0_0]

/-- The activations the body loads are the argument array. -/
theorem x_read (c : Dev nD) : (iblk m c 0 t0_0 : Vec F S3x8192x6016 .bf16) = m ((c : Thread nD τ).loc main_arg0) := by
  rw [← V_main_arg0 m c]
  have e : ∀ y, (iblk m c 0 t0_0 : Vec F S3x8192x6016 .bf16) y
      = (V m c main_arg0 : Vec F S3x8192x6016 .bf16) (((cfg0.win 0).blk t0_0).view.emb y) := fun _ => rfl
  funext y
  rw [e y]
  exact emb_x _ y

/-- The reciprocal scale the body loads is the word the host lines leave. -/
theorem inv_read (c : Dev nD) : (iblk m c 4 t0_0 : Vec F S1 .f32) = V m c main_v4 := by
  have e : ∀ y, (iblk m c 4 t0_0 : Vec F S1 .f32) y
      = (V m c main_v4 : Vec F S1 .f32) (((cfg0.win 4).blk t0_0).view.emb y) := fun _ => rfl
  funext y
  rw [e y]
  exact emb_inv _ y

/-- THE REFERENCE'S CODES AFTER THE RUN: its formula at the activations and at the reciprocal scale `s` its host lines leave. -/
theorem codes_final (c : Dev nD) (s : Vec F S1 .f32) (hs : V m c main_v4 = s) : (dats m 0 c).arrAt 6 (cfgs 0).N
    = k0_pay1 (m ((c : Thread nD τ).loc main_arg0)) s := by
  refine (dats m 0 c).arrAt_eq_of_after_last 6 t0_0 (by decide +kernel) _ fun j => ?_
  blk_simp
  rw [after0_6]
  frame_out
  rw [x_read, inv_read, hs]

end Cert.Reference.Hand

end
-- ==== Proof.InvScale.lean ====
module

public import proofs.«01_k».proof.Proof.Gen.Kernel.Frame
public import proofs.«01_k».proof.Proof.Gen.Reference.Frame
public import Idealize.ShloMosaic.Lib.StableHlo.ReadAt
public import Idealize.ShloMosaic.Lib.Claim

@[expose] public section

set_option maxRecDepth 16384

noncomputable section

namespace Cert.Kernel.Hand

open Idealize.ShloMosaic Idealize.ShloMosaic.TcCoe Idealize.SL.Sem

set_option maxHeartbeats 4000000 in
/-- THE RECIPROCAL SCALE: the kernel's host lines and the reference's compute the same word of the activation scale. -/
theorem inv_eq {F : FTy → Type} [BitOps F]
    (m : (ℓ : Loc Cert.Kernel.nD Cert.Kernel.τ Cert.Kernel.sig) → Buf (Elt F) ℓ)
    (m' : (ℓ : Loc Cert.Reference.nD Cert.Reference.τ Cert.Reference.sig) → Buf (Elt F) ℓ) (c : Dev Cert.Kernel.nD)
    (h : m ((c.tc : Thread Cert.Kernel.nD Cert.Kernel.τ).loc Cert.Kernel.main_arg3)
      = m' ((c.tc : Thread Cert.Reference.nD Cert.Reference.τ).loc Cert.Reference.main_arg3)) :
    Cert.Kernel.Gen.V m c Cert.Kernel.main_v4 = Cert.Reference.Gen.V m' c Cert.Reference.main_v4 := by
  unfold Cert.Kernel.Gen.V Cert.Reference.Gen.V
  after_reads_simp
  simp -implicitDefEqProofs only [StableHlo.TRef.ofBuf, StableHlo.TRef.toBuf, cast_eq]
  rw [h]

end Cert.Kernel.Hand

end
-- ==== Proof.BitExact.lean ====
module

public import proofs.«01_k».proof.Defs
public import proofs.«01_k».proof.Proof.Gen.Kernel.Value
public import proofs.«01_k».proof.Proof.Gen.Reference.Value
public import proofs.«01_k».proof.Proof.Gen.On_codes_and_scale
public import proofs.«01_k».proof.Proof.KernelCodes
public import proofs.«01_k».proof.Proof.ReferenceCodes
public import proofs.«01_k».proof.Proof.InvScale

@[expose] public section

noncomputable section

namespace Cert.Proof

open Idealize.ShloMosaic Idealize.ShloMosaic.TcCoe Idealize.SL.Sem

/-- The mask selects no element of `y`. -/
theorem mask_y {P : Prop} (a0 : FVec Bits Cert.On_codes_and_scale.S3x8192x6016 .bf16) (a1 : FVec Bits Cert.On_codes_and_scale.S6016x1536 .fp8e4m3)
    (a2 : FVec Bits Cert.On_codes_and_scale.S1536 .f32) (a3 : FVec Bits Cert.On_codes_and_scale.S1 .f32)
    (i : Cert.On_codes_and_scale.S3072x8x1536.Idx) (h : (Cert.On_codes_and_scale.fn a0 a1 a2 a3).1 i = 1#1) : P :=
  absurd (show (0#1 : BitVec 1) = 1#1 from h) (by decide)

/-- BIT FOR BIT: the kernel's codes and scale are the reference's, word for word, from the activations, weights and scales. -/
theorem bitexact : bitexact_Kernel_Reference_on_codes_and_scale := by
  intro m ρ m' ρ' _ hagree
  have hinv (c : Dev Cert.Kernel.nD) :
      Cert.Kernel.Gen.V m c Cert.Kernel.main_v4 = Cert.Reference.Gen.V m' c Cert.Reference.main_v4 :=
    Cert.Kernel.Hand.inv_eq m m' c (hagree c).2.2.2.symm
  refine ⟨fun c => (Cert.Kernel.Gen.dats m 0 c).arrAt 5 Cert.Kernel.cfg0.N,
    fun c => Cert.Reference.Gen.k0_pay1
        (m ((c.tc : Thread Cert.Kernel.nD Cert.Kernel.τ).loc Cert.Kernel.main_arg0))
        (Cert.Kernel.Gen.V m c Cert.Kernel.main_v4),
    fun c => m ((c.tc : Thread Cert.Kernel.nD Cert.Kernel.τ).loc Cert.Kernel.main_arg3), ?_, ?_⟩
  · refine (θ_run _ _ _).mono (fun _ h c => ?_) (Cert.Kernel.Value.run_blocks m ρ)
    obtain ⟨h0, h1, k0, k1, k2, k3⟩ := h c
    exact ⟨fun i hi => mask_y _ _ _ _ i hi, fun i _ => congrFun (h1.trans (Cert.Kernel.Hand.codes_final m c _ rfl)) i,
      fun i _ => congrFun k3 i, k0, k1, k2, k3⟩
  · refine (θ_run _ _ _).mono (fun _ h c => ?_) (Cert.Reference.Value.run_blocks m' ρ')
    obtain ⟨h0, h1, k0, k1, k2, k3⟩ := h c
    obtain ⟨e0, e1, e2, e3⟩ := hagree c
    have h1' := h1.trans (Cert.Reference.Hand.codes_final m' c _ (hinv c).symm)
    rw [e0] at h1'
    exact ⟨fun i hi => mask_y _ _ _ _ i hi, fun i _ => congrFun h1' i,
      fun i _ => congrFun (k3.trans e3) i, k0, k1, k2, k3⟩

end Cert.Proof

end
-- ==== Proof.lean ====
module

public import proofs.«01_k».proof.Defs
public import proofs.«01_k».proof.Proof.Gen.Kernel
public import proofs.«01_k».proof.Proof.Gen.Kernel.Value
public import proofs.«01_k».proof.Proof.Gen.Reference
public import proofs.«01_k».proof.Proof.Gen.Reference.Value
public import proofs.«01_k».proof.Proof.Gen.Scaled
public import proofs.«01_k».proof.Proof.Gen.Scaled.Frame
public import proofs.«01_k».proof.Proof.Gen.ScaledIdeal
public import proofs.«01_k».proof.Proof.Gen.ScaledIdeal.Value
public import proofs.«01_k».proof.Proof.Gen.ScaledReferenceIdeal
public import proofs.«01_k».proof.Proof.Gen.ScaledReferenceIdeal.Value
public import proofs.«01_k».proof.Proof.Gen.On_codes_and_scale
public import proofs.«01_k».proof.Proof.Algebraic
public import proofs.«01_k».proof.Proof.BitExact
public import Idealize.ShloMosaic.Adequacy
public import Idealize.ShloMosaic.Init

@[expose] public section

noncomputable section

namespace Cert.Proof

open Idealize.ShloMosaic Idealize.SL.Sem Cert.Kernel

/-- The five frames, the idealization that rewrites nothing, and the two value claims. -/
theorem claim : Cert.Claim :=
  ⟨Cert.Kernel.Gen.facts, Cert.Scaled.Gen.facts, Cert.ScaledIdeal.Gen.facts, Cert.ScaledReferenceIdeal.Gen.facts,
    Cert.Reference.Gen.facts, Cert.On_codes_and_scale.Gen.facts,
    fun m ρ _ => Cert.Kernel.Gen.frame m ρ,
    fun m ρ _ => Cert.Scaled.Gen.frame m ρ,
    fun m ρ _ => Cert.ScaledIdeal.Gen.frame m ρ,
    fun m ρ _ => Cert.ScaledReferenceIdeal.Gen.frame m ρ,
    fun m ρ _ => Cert.Reference.Gen.frame m ρ,
    trivial,
    algebraic,
    bitexact⟩

end Cert.Proof

end
